-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x3584 : Shape := ⟨3, ![1, 256, 3584]⟩
abbrev S1792x18944 : Shape := ⟨2, ![1792, 18944]⟩
abbrev S112x18944 : Shape := ⟨2, ![112, 18944]⟩
abbrev S112x16 : Shape := ⟨2, ![112, 16]⟩
abbrev S16x18944 : Shape := ⟨2, ![16, 18944]⟩
abbrev S256x3584 : Shape := ⟨2, ![256, 3584]⟩
abbrev S256x18944 : Shape := ⟨2, ![256, 18944]⟩
abbrev S1792x512 : Shape := ⟨2, ![1792, 512]⟩
abbrev S112x512 : Shape := ⟨2, ![112, 512]⟩
abbrev S16x512 : Shape := ⟨2, ![16, 512]⟩
abbrev S256x512 : Shape := ⟨2, ![256, 512]⟩
abbrev S256x16 : Shape := ⟨2, ![256, 16]⟩
abbrev S3584x112 : Shape := ⟨2, ![3584, 112]⟩
abbrev S256x112 : Shape := ⟨2, ![256, 112]⟩
abbrev S128x512 : Shape := ⟨2, ![128, 512]⟩
abbrev S128x1x512 : Shape := ⟨3, ![128, 1, 512]⟩
abbrev S128x2x512 : Shape := ⟨3, ![128, 2, 512]⟩
abbrev S1x512 : Shape := ⟨2, ![1, 512]⟩
abbrev S32x512 : Shape := ⟨2, ![32, 512]⟩
abbrev S256x256 : Shape := ⟨2, ![256, 256]⟩
abbrev S1x256x18944 : Shape := ⟨3, ![1, 256, 18944]⟩

abbrev nBuf : Space → Nat
  | .hbm => 9
  | .vmem => 13
  | .smem => 0
  | _ => 0

abbrev bufTy : (tb : Table) → Fin (tcTables nBuf tb) → BufTy
  | .hbm, ⟨0, _⟩ => ⟨S1x256x3584, .bf16⟩
  | .hbm, ⟨1, _⟩ => ⟨S1792x18944, .i8⟩
  | .hbm, ⟨2, _⟩ => ⟨S112x18944, .bf16⟩
  | .hbm, ⟨3, _⟩ => ⟨S112x18944, .i8⟩
  | .hbm, ⟨4, _⟩ => ⟨S112x16, .bf16⟩
  | .hbm, ⟨5, _⟩ => ⟨S16x18944, .bf16⟩
  | .hbm, ⟨6, _⟩ => ⟨S256x3584, .bf16⟩
  | .hbm, ⟨7, _⟩ => ⟨S256x18944, .bf16⟩
  | .hbm, ⟨8, _⟩ => ⟨S1x256x18944, .bf16⟩
  | .local _ .vmem, ⟨0, _⟩ => ⟨S256x3584, .bf16⟩
  | .local _ .vmem, ⟨1, _⟩ => ⟨S1792x512, .i8⟩
  | .local _ .vmem, ⟨2, _⟩ => ⟨S1792x512, .i8⟩
  | .local _ .vmem, ⟨3, _⟩ => ⟨S112x512, .bf16⟩
  | .local _ .vmem, ⟨4, _⟩ => ⟨S112x512, .bf16⟩
  | .local _ .vmem, ⟨5, _⟩ => ⟨S112x512, .i8⟩
  | .local _ .vmem, ⟨6, _⟩ => ⟨S112x512, .i8⟩
  | .local _ .vmem, ⟨7, _⟩ => ⟨S112x16, .bf16⟩
  | .local _ .vmem, ⟨8, _⟩ => ⟨S16x512, .bf16⟩
  | .local _ .vmem, ⟨9, _⟩ => ⟨S16x512, .bf16⟩
  | .local _ .vmem, ⟨10, _⟩ => ⟨S256x512, .bf16⟩
  | .local _ .vmem, ⟨11, _⟩ => ⟨S256x512, .bf16⟩
  | .local _ .vmem, ⟨12, _⟩ => ⟨S256x16, .bf16⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S112x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x256x3584 : Shape := ⟨3, ![1, 256, 3584]⟩
abbrev S1792x18944 : Shape := ⟨2, ![1792, 18944]⟩
abbrev S112x18944 : Shape := ⟨2, ![112, 18944]⟩
abbrev S112x16 : Shape := ⟨2, ![112, 16]⟩
abbrev S16x18944 : Shape := ⟨2, ![16, 18944]⟩
abbrev S_ : Shape := ⟨0, ![]⟩
abbrev S112x1x18944 : Shape := ⟨3, ![112, 1, 18944]⟩
abbrev S112x16x18944 : Shape := ⟨3, ![112, 16, 18944]⟩
abbrev S1x256x1792 : Shape := ⟨3, ![1, 256, 1792]⟩
abbrev S1x256x18944 : Shape := ⟨3, ![1, 256, 18944]⟩
abbrev S1x256x112x32 : Shape := ⟨4, ![1, 256, 112, 32]⟩
abbrev S1x256x112 : Shape := ⟨3, ![1, 256, 112]⟩
abbrev S1x256x16 : Shape := ⟨3, ![1, 256, 16]⟩

abbrev nBuf : Space → Nat
  | .hbm => 52
  | .vmem => 0
  | .smem => 0
  | _ => 0

abbrev bufTy : (tb : Table) → Fin (tcTables nBuf tb) → BufTy
  | .hbm, ⟨0, _⟩ => ⟨S1x256x3584, .bf16⟩
  | .hbm, ⟨1, _⟩ => ⟨S1792x18944, .i8⟩
  | .hbm, ⟨2, _⟩ => ⟨S112x18944, .bf16⟩
  | .hbm, ⟨3, _⟩ => ⟨S112x18944, .i8⟩
  | .hbm, ⟨4, _⟩ => ⟨S112x16, .bf16⟩
  | .hbm, ⟨5, _⟩ => ⟨S16x18944, .bf16⟩
  | .hbm, ⟨6, _⟩ => ⟨S1792x18944, .i32⟩
  | .hbm, ⟨7, _⟩ => ⟨S_, .i32⟩
  | .hbm, ⟨8, _⟩ => ⟨S1792x18944, .i32⟩
  | .hbm, ⟨9, _⟩ => ⟨S1792x18944, .i32⟩
  | .hbm, ⟨10, _⟩ => ⟨S_, .i32⟩
  | .hbm, ⟨11, _⟩ => ⟨S1792x18944, .i32⟩
  | .hbm, ⟨12, _⟩ => ⟨S1792x18944, .i32⟩
  | .hbm, ⟨13, _⟩ => ⟨S112x18944, .i32⟩
  | .hbm, ⟨14, _⟩ => ⟨S112x18944, .bf16⟩
  | .hbm, ⟨15, _⟩ => ⟨S112x1x18944, .bf16⟩
  | .hbm, ⟨16, _⟩ => ⟨S112x1x18944, .bf16⟩
  | .hbm, ⟨17, _⟩ => ⟨S1792x18944, .bf16⟩
  | .hbm, ⟨18, _⟩ => ⟨S112x16x18944, .bf16⟩
  | .hbm, ⟨19, _⟩ => ⟨S112x16x18944, .bf16⟩
  | .hbm, ⟨20, _⟩ => ⟨S112x16x18944, .bf16⟩
  | .hbm, ⟨21, _⟩ => ⟨S112x16x18944, .bf16⟩
  | .hbm, ⟨22, _⟩ => ⟨S112x16x18944, .bf16⟩
  | .hbm, ⟨23, _⟩ => ⟨S1792x18944, .bf16⟩
  | .hbm, ⟨24, _⟩ => ⟨S1792x18944, .bf16⟩
  | .hbm, ⟨25, _⟩ => ⟨S112x16x18944, .bf16⟩
  | .hbm, ⟨26, _⟩ => ⟨S112x16x18944, .bf16⟩
  | .hbm, ⟨27, _⟩ => ⟨S112x16x18944, .bf16⟩
  | .hbm, ⟨28, _⟩ => ⟨S112x16x18944, .bf16⟩
  | .hbm, ⟨29, _⟩ => ⟨S112x16x18944, .bf16⟩
  | .hbm, ⟨30, _⟩ => ⟨S1792x18944, .bf16⟩
  | .hbm, ⟨31, _⟩ => ⟨S1x256x1792, .bf16⟩
  | .hbm, ⟨32, _⟩ => ⟨S1x256x18944, .f32⟩
  | .hbm, ⟨33, _⟩ => ⟨S1x256x1792, .bf16⟩
  | .hbm, ⟨34, _⟩ => ⟨S1x256x18944, .f32⟩
  | .hbm, ⟨35, _⟩ => ⟨S1x256x18944, .f32⟩
  | .hbm, ⟨36, _⟩ => ⟨S1x256x3584, .f32⟩
  | .hbm, ⟨37, _⟩ => ⟨S1x256x112x32, .f32⟩
  | .hbm, ⟨38, _⟩ => ⟨S_, .f32⟩
  | .hbm, ⟨39, _⟩ => ⟨S1x256x112, .f32⟩
  | .hbm, ⟨40, _⟩ => ⟨S_, .f32⟩
  | .hbm, ⟨41, _⟩ => ⟨S1x256x112, .f32⟩
  | .hbm, ⟨42, _⟩ => ⟨S1x256x112, .f32⟩
  | .hbm, ⟨43, _⟩ => ⟨S1x256x112, .bf16⟩
  | .hbm, ⟨44, _⟩ => ⟨S1x256x16, .f32⟩
  | .hbm, ⟨45, _⟩ => ⟨S_, .f32⟩
  | .hbm, ⟨46, _⟩ => ⟨S1x256x16, .f32⟩
  | .hbm, ⟨47, _⟩ => ⟨S1x256x16, .f32⟩
  | .hbm, ⟨48, _⟩ => ⟨S1x256x16, .bf16⟩
  | .hbm, ⟨49, _⟩ => ⟨S1x256x18944, .f32⟩
  | .hbm, ⟨50, _⟩ => ⟨S1x256x18944, .f32⟩
  | .hbm, ⟨51, _⟩ => ⟨S1x256x18944, .bf16⟩
  | _, _ => ⟨S1x256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.Block.lean ====
/-
  What one grid point leaves in its output block: fourteen tiles of 256 contracted columns, added to the adapter's
  contribution in order. Each tile's dequantised weights are the nibbles of 128 rows of code bytes, shifted and scaled in
  eight groups of 32 rows. Everything here holds for any float interpretation.
-/
module

public import proofs.«01_k».proof.Proof.Gen.KernelIdeal.Frame
public import Idealize.ShloMosaic.Lib.Pipeline.Value

@[expose] public section

noncomputable section

open Idealize.ShloMosaic Idealize.ShloMosaic.TcCoe Idealize.SL.Sem

namespace Cert.KernelIdeal.Block

open Cert.KernelIdeal Cert.KernelIdeal.Gen

variable {F : FTy → Type} [FloatOps F]

theorem hz : (![0, 0] : Fin 2 → Nat) = fun _ => 0 := funext fun a => by fin_cases a <;> rfl

/-- The 128 rows of code bytes that tile `t` reads. -/
theorem inb_codes (t : Fin 14) : ∀ a, (![128 * t.val, 0] : Fin 2 → Nat) a + S128x512.size a ≤ S1792x512.size a := by
  intro a; have := t.isLt; fin_cases a
  · show 128 * t.val + 128 ≤ 1792; omega
  · show 0 + 512 ≤ 512; omega

/-- Row `8 t + g` of a table of one row per group. -/
theorem inb_row (t : Fin 14) (g : Fin 8) : ∀ a, (![8 * t.val + g.val, 0] : Fin 2 → Nat) a + S1x512.size a ≤ S112x512.size a := by
  intro a; have := t.isLt; have := g.isLt; fin_cases a
  · show 8 * t.val + g.val + 1 ≤ 112; omega
  · show 0 + 512 ≤ 512; omega

/-- The 256 columns of the input that tile `t` reads. -/
theorem inb_cols (t : Fin 14) : ∀ a, (![0, 256 * t.val] : Fin 2 → Nat) a + S256x256.size a ≤ S256x3584.size a := by
  intro a; have := t.isLt; fin_cases a
  · show 0 + 256 ≤ 256; omega
  · show 256 * t.val + 256 ≤ 3584; omega

/-- One tile added to the running sum `acc`: 128 rows of codes, eight scale rows, eight zero-point rows, 256 columns of
    the input. -/
def tile (acc : FVec F S256x512 .f32) (w : Vec F S128x512 .i8) (sc : Fin 8 → Vec F S1x512 .bf16) (z : Fin 8 → Vec F S1x512 .i8)
    (x : Vec F S256x256 .bf16) : FVec F S256x512 .f32 :=
  k0_pay13 acc (k0_pay5 w) (k0_pay6 w (sc 0) (z 0)) (k0_pay7 w (sc 1) (z 1)) (k0_pay8 (k0_pay5 w) (sc 2) (z 2))
    (k0_pay9 (k0_pay5 w) (sc 3) (z 3)) (k0_pay10 (k0_pay5 w) (sc 4) (z 4)) (k0_pay11 (k0_pay5 w) (sc 5) (z 5))
    (k0_pay12 (k0_pay5 w) (sc 6) (z 6)) (sc 7) (z 7) x

/-- Tile `t` of a block, its rows and columns taken from the block's inputs. -/
def tileAt (x0 : Vec F S256x3584 .bf16) (x1 : Vec F S1792x512 .i8) (x2 : Vec F S112x512 .bf16) (x3 : Vec F S112x512 .i8)
    (t : Fin 14) (acc : FVec F S256x512 .f32) : FVec F S256x512 .f32 :=
  tile acc (View.ld x1 (Rect.unit (s := S1792x512) ![128 * t.val, 0] S128x512.size (inb_codes t)))
    (fun g => View.ld x2 (Rect.unit (s := S112x512) ![8 * t.val + g.val, 0] S1x512.size (inb_row t g)))
    (fun g => View.ld x3 (Rect.unit (s := S112x512) ![8 * t.val + g.val, 0] S1x512.size (inb_row t g)))
    (View.ld x0 (Rect.unit (s := S256x3584) ![0, 256 * t.val] S256x256.size (inb_cols t)))

/-- The running sum after `n` tiles, started at the adapter's contribution. -/
def chain (x0 : Vec F S256x3584 .bf16) (x1 : Vec F S1792x512 .i8) (x2 : Vec F S112x512 .bf16) (x3 : Vec F S112x512 .i8)
    (x5 : Vec F S16x512 .bf16) (u : Vec F S256x16 .bf16) : (n : ℕ) → n ≤ 14 → FVec F S256x512 .f32
  | 0, _ => k0_pay4 u x5
  | n + 1, h => tileAt x0 x1 x2 x3 ⟨n, h⟩ (chain x0 x1 x2 x3 x5 u n (Nat.le_of_succ_le h))

/-- The block a grid point writes, given the adapter's activations `u`. -/
def blockOut (x0 : Vec F S256x3584 .bf16) (x1 : Vec F S1792x512 .i8) (x2 : Vec F S112x512 .bf16) (x3 : Vec F S112x512 .i8)
    (x5 : Vec F S16x512 .bf16) (u : Vec F S256x16 .bf16) : FVec F S256x512 .bf16 :=
  truncf .bf16 (chain x0 x1 x2 x3 x5 u 14 le_rfl) bitsLt_bf16_f32

set_option maxHeartbeats 1000000 in
/-- At every point but the first, the body leaves `blockOut` of its input blocks and the carried activations. -/
theorem out_B (c : Dev nD) (i : grid0.Coords) (a1 : Memref sig .tc .vmem S256x3584 .bf16) (h1 : a1.IsWhole)
    (a2 : Memref sig .tc .vmem S1792x512 .i8) (h2 : a2.IsWhole) (a3 : Memref sig .tc .vmem S112x512 .bf16) (h3 : a3.IsWhole)
    (a4 : Memref sig .tc .vmem S112x512 .i8) (h4 : a4.IsWhole) (a5 : Memref sig .tc .vmem S112x16 .bf16) (h5 : a5.IsWhole)
    (a6 : Memref sig .tc .vmem S16x512 .bf16) (h6 : a6.IsWhole) (a7 : Memref sig .tc .vmem S256x512 .bf16) (h7 : a7.IsWhole)
    (a8 : Memref sig .tc .vmem S256x16 .bf16) (h8 : a8.IsWhole) (hc : ¬cond0_0 i)
    (x0 : Vec F S256x3584 .bf16) (x1 : Vec F S1792x512 .i8) (x2 : Vec F S112x512 .bf16) (x3 : Vec F S112x512 .i8)
    (x4 : Vec F S112x16 .bf16) (x5 : Vec F S16x512 .bf16) (u : Vec F S256x16 .bf16) :
    out0_B_6 c i a1 h1 a2 h2 a3 h3 a4 h4 a5 h5 a6 h6 a7 h7 a8 h8 hc x0 x1 x2 x3 x4 x5 u = blockOut x0 x1 x2 x3 x5 u := by
  unfold out0_B_6
  rw [View.read_writes_eq_canon _ _ _ (cover0_B_6 c i a1 h1 a2 h2 a3 h3 a4 h4 a5 h5 a6 h6 a7 h7 a8 h8 hc x0 x1 x2 x3 x4 x5 u)]
  unfold kernelRun0_B
  dsimp only
  rw [View.canon_unit_zero hz]
  sl_unfold_words
  simp only [View.readAt_eq_ld, h1.read_unread, h2.read_unread, h3.read_unread, h4.read_unread, h6.read_unread, h8.read_unread]
  rw [View.ld_unit_zero (S := S256x16) hz, View.ld_unit_zero (S := S16x512) hz]
  rfl

/-- The adapter's activations, computed once from the whole input and the adapter's first factor. -/
def act (x0 : Vec F S256x3584 .bf16) (x4 : Vec F S112x16 .bf16) : FVec F S256x16 .bf16 := k0_pay3 (k0_pay2 x0 x4)

set_option maxHeartbeats 1000000 in
/-- At the first point, the body leaves the adapter's activations in the scratch. -/
theorem sout_A (c : Dev nD) (i : grid0.Coords) (a1 : Memref sig .tc .vmem S256x3584 .bf16) (h1 : a1.IsWhole)
    (a2 : Memref sig .tc .vmem S1792x512 .i8) (h2 : a2.IsWhole) (a3 : Memref sig .tc .vmem S112x512 .bf16) (h3 : a3.IsWhole)
    (a4 : Memref sig .tc .vmem S112x512 .i8) (h4 : a4.IsWhole) (a5 : Memref sig .tc .vmem S112x16 .bf16) (h5 : a5.IsWhole)
    (a6 : Memref sig .tc .vmem S16x512 .bf16) (h6 : a6.IsWhole) (a7 : Memref sig .tc .vmem S256x512 .bf16) (h7 : a7.IsWhole)
    (a8 : Memref sig .tc .vmem S256x16 .bf16) (h8 : a8.IsWhole) (hc : cond0_0 i)
    (x0 : Vec F S256x3584 .bf16) (x1 : Vec F S1792x512 .i8) (x2 : Vec F S112x512 .bf16) (x3 : Vec F S112x512 .i8)
    (x4 : Vec F S112x16 .bf16) (x5 : Vec F S16x512 .bf16) :
    sout0_A_0 c i a1 h1 a2 h2 a3 h3 a4 h4 a5 h5 a6 h6 a7 h7 a8 h8 hc x0 x1 x2 x3 x4 x5 = act x0 x4 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero hz]
  simp only [View.readAt_eq_ld, h1.read_unread, h5.read_unread]
  rw [View.ld_unit_zero (S := S256x3584) hz, View.ld_unit_zero (S := S112x16) hz]
  rfl

set_option maxHeartbeats 1000000 in
/-- At the first point, the body leaves `blockOut` of its input blocks and the activations it has just computed. -/
theorem out_A (c : Dev nD) (i : grid0.Coords) (a1 : Memref sig .tc .vmem S256x3584 .bf16) (h1 : a1.IsWhole)
    (a2 : Memref sig .tc .vmem S1792x512 .i8) (h2 : a2.IsWhole) (a3 : Memref sig .tc .vmem S112x512 .bf16) (h3 : a3.IsWhole)
    (a4 : Memref sig .tc .vmem S112x512 .i8) (h4 : a4.IsWhole) (a5 : Memref sig .tc .vmem S112x16 .bf16) (h5 : a5.IsWhole)
    (a6 : Memref sig .tc .vmem S16x512 .bf16) (h6 : a6.IsWhole) (a7 : Memref sig .tc .vmem S256x512 .bf16) (h7 : a7.IsWhole)
    (a8 : Memref sig .tc .vmem S256x16 .bf16) (h8 : a8.IsWhole) (hc : cond0_0 i)
    (x0 : Vec F S256x3584 .bf16) (x1 : Vec F S1792x512 .i8) (x2 : Vec F S112x512 .bf16) (x3 : Vec F S112x512 .i8)
    (x4 : Vec F S112x16 .bf16) (x5 : Vec F S16x512 .bf16) :
    out0_A_6 c i a1 h1 a2 h2 a3 h3 a4 h4 a5 h5 a6 h6 a7 h7 a8 h8 hc x0 x1 x2 x3 x4 x5 = blockOut x0 x1 x2 x3 x5 (act x0 x4) := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  rw [View.canon_unit_zero hz]
  sl_unfold_words
  rw [View.readCov_unit_zero (S := S256x16) _ hz]
  simp only [View.readAt_eq_ld, h1.read_unread, h2.read_unread, h3.read_unread, h4.read_unread, h5.read_unread, h6.read_unread]
  rw [View.ld_unit_zero (S := S256x3584) hz, View.ld_unit_zero (S := S112x16) hz, View.ld_unit_zero (S := S16x512) hz]
  rfl

variable (m : (ℓ : Loc nD τ sig) → Buf (Elt F) ℓ)

/-- The first grid point. -/
def pt0 : Fin cfg0.N := ⟨0, by have : cfg0.N = 37 := N_0; omega⟩

/-- The activations computed at the first point are still in the scratch after every later one. -/
theorem scratch_eq (c : Dev nD) : ∀ (n : ℕ) (h : n < cfg0.N),
    (outsAt0 m c n h).2 = act (iblk m c 0 pt0) (iblk m c 4 pt0)
  | 0, h => by
    rw [outsAt0_A m c ⟨0, h⟩ rfl]
    dsimp only
    exact sout_A ..
  | n + 1, h => by
    have hN : cfg0.N = 37 := N_0
    have hB : ¬(⟨n + 1, h⟩ : Fin cfg0.N).val % 37 = 0 := by dsimp only; omega
    rw [outsAt0_B m c ⟨n + 1, h⟩ hB]
    exact scratch_eq c n (Nat.lt_of_succ_lt h)

/-- The block after point `t`: `blockOut` of the point's input blocks and the first point's activations. -/
theorem after_eq (c : Dev nD) (t : Fin cfg0.N) : (dats m 0 c).after 6 t =
    blockOut (iblk m c 0 t) (iblk m c 1 t) (iblk m c 2 t) (iblk m c 3 t) (iblk m c 5 t)
      (act (iblk m c 0 pt0) (iblk m c 4 pt0)) := by
  have hN : cfg0.N = 37 := N_0
  rw [after0_6]
  by_cases h : t.val % 37 = 0
  · obtain rfl : t = pt0 := Fin.ext (by have := t.isLt; show t.val = 0; omega)
    rw [outsAt0_A m c _ h]
    dsimp only
    exact out_A ..
  · rw [outsAt0_B m c t h]
    dsimp only
    rw [out_B, scratch_eq]

end Cert.KernelIdeal.Block

end
-- ==== Proof.Weights.lean ====
/-
  The mathematics of one output element, over the extended reals: four-bit codes packed two to a byte down a column, one
  zero point and one scale per 32 rows, and an adapter on the group means of the input.
-/
module

public import Idealize.ShloMosaic.PureOps.Ideal.Laws
public import Idealize.ShloMosaic.Lib.ValueIdxCore

@[expose] public section

noncomputable section

open scoped BigOperators

namespace Cert.Weights

open Idealize.ShloMosaic

/-- The code of row `k`, of the byte holding rows `k` (even) and `k + 1`, or `k - 1` and `k` (odd): the low four bits for
    an even row, the high four for an odd one. -/
def nib (k : ℕ) (c : BitVec 8) : EReal := (((if k % 2 = 0 then c.toNat % 16 else c.toNat / 16 : ℕ) : ℝ) : EReal)

/-- A zero point as a number. -/
def zp (z : BitVec 8) : EReal := ((z.toNat : ℝ) : EReal)

/-- The product of the input's column `k` with the dequantised weight of row `k`, for one row `x` of the input and one
    column of the codes `w`, the scales `s` and the zero points `z`; `0` past the last row. -/
def term (x : Fin 3584 → EReal) (w : Fin 1792 → BitVec 8) (s : Fin 112 → EReal) (z : Fin 112 → BitVec 8) (k : ℕ) : EReal :=
  if h : k < 3584 then
    x ⟨k, h⟩ * ((nib k (w ⟨k / 2, by omega⟩) - zp (z ⟨k / 32, by omega⟩)) * s ⟨k / 32, by omega⟩)
  else 0

theorem term_of_lt (x : Fin 3584 → EReal) (w : Fin 1792 → BitVec 8) (s : Fin 112 → EReal) (z : Fin 112 → BitVec 8) (k : ℕ)
    (h : k < 3584) : term x w s z k
      = x ⟨k, h⟩ * ((nib k (w ⟨k / 2, by omega⟩) - zp (z ⟨k / 32, by omega⟩)) * s ⟨k / 32, by omega⟩) := dif_pos h

/-- The adapter's activation `q` for one row of the input: the group sums scaled by 1/32, times the adapter's first
    factor, times the adapter's scale. -/
def adapt (x : Fin 3584 → EReal) (a : Fin 112 → Fin 16 → EReal) (q : Fin 16) : EReal :=
  (∑ g : Fin 112, ((∑ i : Fin 32, x ⟨32 * g.val + i.val, by omega⟩) * Ideal.ofBits .f32 0x3D000000#32) * a g q)
    * Ideal.ofBits .f32 0x3F800000#32

/-- One element of the result: the adapter's part plus the product with the dequantised weights. -/
def out (x : Fin 3584 → EReal) (w : Fin 1792 → BitVec 8) (s : Fin 112 → EReal) (z : Fin 112 → BitVec 8)
    (a : Fin 112 → Fin 16 → EReal) (b : Fin 16 → EReal) : EReal :=
  (∑ q : Fin 16, adapt x a q * b q) + ∑ k ∈ Finset.range 3584, term x w s z k

/-- A sum over the first `2 n` numbers is the sum over the even ones plus the sum over the odd ones. -/
theorem sum_even_odd (f : ℕ → EReal) (n : ℕ) :
    ∑ k ∈ Finset.range (2 * n), f k = ∑ r ∈ Finset.range n, f (2 * r) + ∑ r ∈ Finset.range n, f (2 * r + 1) := by
  induction n with
  | zero => simp
  | succ n ih =>
    rw [show 2 * (n + 1) = 2 * n + 1 + 1 from by omega, Finset.sum_range_succ, Finset.sum_range_succ, ih,
      Finset.sum_range_succ, Finset.sum_range_succ]
    abel

/-- The sum of the columns a 0/1 matrix puts in group `g` is the sum over the group's 32 columns. -/
theorem pool (x : Fin 3584 → EReal) (g : Fin 112) :
    ∑ k : Fin 3584, x k * (if k.val / 32 = g.val then 1 else 0) = ∑ i : Fin 32, x ⟨32 * g.val + i.val, by omega⟩ := by
  rw [← Equiv.sum_comp (finProdFinEquiv (m := 112) (n := 32)) (fun k : Fin (112 * 32) =>
    x k * (if k.val / 32 = g.val then (1 : EReal) else 0)), Fintype.sum_prod_type]
  rw [Finset.sum_eq_single g]
  · refine Finset.sum_congr rfl fun i _ => ?_
    have h : (finProdFinEquiv (g, i) : Fin (112 * 32)).val = i.val + 32 * g.val := rfl
    rw [if_pos (by rw [h]; omega), mul_one]
    exact congrArg x (Fin.ext (by rw [h]; show i.val + 32 * g.val = 32 * g.val + i.val; omega))
  · intro b _ hb
    refine Finset.sum_eq_zero fun i _ => ?_
    have h : (finProdFinEquiv (b, i) : Fin (112 * 32)).val = i.val + 32 * b.val := rfl
    rw [if_neg (by rw [h]; have : b.val ≠ g.val := fun e => hb (Fin.ext e); omega), mul_zero]
  · intro h; exact absurd (Finset.mem_univ g) h

/-- The result element with the two halves of each byte summed apart, as a reference that never interleaves them has it. -/
theorem out_eq_split (x : Fin 3584 → EReal) (w : Fin 1792 → BitVec 8) (s : Fin 112 → EReal) (z : Fin 112 → BitVec 8)
    (a : Fin 112 → Fin 16 → EReal) (b : Fin 16 → EReal) :
    out x w s z a b = (∑ r : Fin 1792, x ⟨2 * r.val, by omega⟩ * ((nib 0 (w r) - zp (z ⟨r.val / 16, by omega⟩)) * s ⟨r.val / 16, by omega⟩)
      + ∑ r : Fin 1792, x ⟨2 * r.val + 1, by omega⟩ * ((nib 1 (w r) - zp (z ⟨r.val / 16, by omega⟩)) * s ⟨r.val / 16, by omega⟩))
      + ∑ q : Fin 16, adapt x a q * b q := by
  unfold out
  rw [add_comm]
  refine congrArg (· + _) ?_
  refine (sum_even_odd (term x w s z) 1792).trans ?_
  rw [Finset.sum_range, Finset.sum_range]
  refine congrArg₂ (· + ·) (Finset.sum_congr rfl fun r _ => ?_) (Finset.sum_congr rfl fun r _ => ?_)
  · rw [term_of_lt _ _ _ _ _ (by omega)]
    have h1 : 2 * r.val / 2 = r.val := by omega
    have h2 : 2 * r.val / 32 = r.val / 16 := by omega
    have h3 : nib (2 * r.val) = nib 0 := by funext c; unfold nib; rw [show 2 * r.val % 2 = 0 % 2 from by omega]
    simp only [h1, h2, h3]
  · rw [term_of_lt _ _ _ _ _ (by omega)]
    have h1 : (2 * r.val + 1) / 2 = r.val := by omega
    have h2 : (2 * r.val + 1) / 32 = r.val / 16 := by omega
    have h3 : nib (2 * r.val + 1) = nib 1 := by funext c; unfold nib; rw [show (2 * r.val + 1) % 2 = 1 % 2 from by omega]
    simp only [h1, h2, h3]

/-! ## The words a program computes codes with -/

/-- The low four bits kept, read as an unsigned four-bit number. -/
theorem lo4 (c : BitVec 8) : ((((((c.setWidth 32) &&& 15#32).setWidth 4).toNat : ℝ)) : EReal) = nib 0 c := by
  have h : (((c.setWidth 32) &&& 15#32).setWidth 4).toNat = c.toNat % 16 := by revert c; decide +kernel
  rw [h]; rfl

/-- The byte shifted right by four, read as an unsigned four-bit number. -/
theorem hi4 (c : BitVec 8) : (((((((c.setWidth 32).sshiftRight 4).setWidth 4).toNat : ℝ))) : EReal) = nib 1 c := by
  have h : (((c.setWidth 32).sshiftRight 4).setWidth 4).toNat = c.toNat / 16 := by revert c; decide +kernel
  rw [h]; rfl

/-- The low four bits kept, read as a signed 32-bit number. -/
theorem lo32 (c : BitVec 8) : (((((c.setWidth 32) &&& 15#32).toInt : ℝ)) : EReal) = nib 0 c := by
  have h : ((c.setWidth 32) &&& 15#32).toInt = ((c.toNat % 16 : ℕ) : ℤ) := by revert c; decide +kernel
  rw [h, Int.cast_natCast]; rfl

/-- The byte shifted right by four, read as a signed 32-bit number. -/
theorem hi32 (c : BitVec 8) : ((((((c.setWidth 32).sshiftRight 4).toInt : ℝ))) : EReal) = nib 1 c := by
  have h : ((c.setWidth 32).sshiftRight 4).toInt = ((c.toNat / 16 : ℕ) : ℤ) := by revert c; decide +kernel
  rw [h, Int.cast_natCast]; rfl

/-- A zero point widened to 32 bits and read as a signed number. -/
theorem zp32 (c : BitVec 8) : ((((c.setWidth 32).toInt : ℝ)) : EReal) = zp c := by
  have h : (c.setWidth 32).toInt = (c.toNat : ℤ) := by revert c; decide +kernel
  rw [h, Int.cast_natCast]; rfl

end Cert.Weights

end
-- ==== Proof.Tile.lean ====
/-
  One tile of the kernel's body read at an element over the extended reals: the running sum plus 256 products of the input
  with dequantised weights.
-/
module

public import proofs.«01_k».proof.Proof.Block
public import proofs.«01_k».proof.Proof.Weights
public import Idealize.ShloMosaic.Lib.MatmulPlain
public import Idealize.ShloMosaic.Lib.ValueLayout
public import Idealize.ShloMosaic.Lib.Pipeline.ValueKit.Tiles

@[expose] public section

noncomputable section

open Idealize.ShloMosaic Idealize.ShloMosaic.ValueIdx
open scoped BigOperators

namespace Cert.KernelIdeal.Block

open Cert.KernelIdeal Cert.KernelIdeal.Gen Cert.Weights

/-- The nibble tile: row `k` of 256 is the code of row `k`, from byte row `k / 2`. -/
theorem nibbles_apply (w : Vec Ideal S128x512 .i8) (k : Fin 256) (c : Fin 512) :
    k0_pay5 (F := Ideal) w (ix2 k c) = nib k.val (w (ix2 ⟨k.val / 2, by omega⟩ c)) := by
  unfold k0_pay5
  show (((((shapeCast S256x512 _ _ (ix2 k c) : BitVec 32).setWidth 4).toNat : ℝ)) : EReal) = _
  rw [shapeCast_apply (s := S128x2x512) (t := S256x512) _ _ (ix2 k c) (ix3 ⟨k.val / 2, by omega⟩ ⟨k.val % 2, by omega⟩ c) (by
    rw [Shape.rowMajor_val_three, Shape.rowMajor_val_two]
    show ((k.val / 2) * 2 + k.val % 2) * 512 + c.val = k.val * 512 + c.val
    omega)]
  rcases Nat.mod_two_eq_zero_or_one k.val with hk | hk
  · rw [concatenate_pair_apply_left (s₁ := S128x1x512) (s₂ := S128x1x512) (t := S128x2x512) 1 _ _ _ _ rfl (ix3 ⟨k.val / 2, by omega⟩ 0 c) (fun b => by
      fin_cases b
      · rfl
      · exact hk.symm
      · rfl)]
    rw [shapeCast_apply (s := S128x512) (t := S128x1x512) _ _ _ (ix2 ⟨k.val / 2, by omega⟩ c) (by
      rw [Shape.rowMajor_val_three, Shape.rowMajor_val_two]
      show (k.val / 2) * 512 + c.val = ((k.val / 2) * 1 + 0) * 512 + c.val
      omega)]
    refine (lo4 _).trans ?_
    unfold nib; rw [hk]
  · rw [concatenate_pair_apply_right (s₁ := S128x1x512) (s₂ := S128x1x512) (t := S128x2x512) 1 _ _ _ _ rfl rfl (ix3 ⟨k.val / 2, by omega⟩ 0 c) (fun b hb => by
      fin_cases b
      · rfl
      · exact absurd rfl hb
      · rfl) (by show 0 + 1 = k.val % 2; omega)]
    rw [shapeCast_apply (s := S128x512) (t := S128x1x512) _ _ _ (ix2 ⟨k.val / 2, by omega⟩ c) (by
      rw [Shape.rowMajor_val_three, Shape.rowMajor_val_two]
      show (k.val / 2) * 512 + c.val = ((k.val / 2) * 1 + 0) * 512 + c.val
      omega)]
    refine (hi4 _).trans ?_
    unfold nib; rw [hk]

/-- The 32 rows of group `g`, shifted by the group's zero point and scaled. -/
def grp (f : FVec Ideal S256x512 .bf16) (o : ℕ) (h : S256x512.Slices ![o, 0] S32x512) (s : Vec Ideal S1x512 .bf16)
    (z : Vec Ideal S1x512 .i8) : FVec Ideal S32x512 .bf16 :=
  mulf (subf (extractStridedSlice S32x512 ![o, 0] f h) (broadcastTo S32x512 (uitofp .bf16 z) broadcasts_S1x512_S32x512))
    (broadcastTo S32x512 s broadcasts_S1x512_S32x512)

theorem grp_apply (f : FVec Ideal S256x512 .bf16) (o : ℕ) (h : S256x512.Slices ![o, 0] S32x512) (s : Vec Ideal S1x512 .bf16)
    (z : Vec Ideal S1x512 .i8) (i : Fin 32) (c : Fin 512) (k : Fin 256) (hk : k.val = o + i.val) :
    grp f o h s z (ix2 i c) = (f (ix2 k c) - zp (z (ix2 0 c))) * s (ix2 0 c) := by
  show (extractStridedSlice S32x512 ![o, 0] f h (ix2 i c) - broadcastTo S32x512 (uitofp .bf16 z) broadcasts_S1x512_S32x512 (ix2 i c))
    * broadcastTo S32x512 s broadcasts_S1x512_S32x512 (ix2 i c) = _
  rw [broadcastTo_1b_ab_apply, broadcastTo_1b_ab_apply, extractStridedSlice_apply _ _ _ _ (ix2 k c) (fun a => by
    fin_cases a
    · exact hk
    · show c.val = 0 + c.val; omega)]
  rfl

theorem slices_grp (g : Fin 8) : S256x512.Slices ![32 * g.val, 0] S32x512 := ⟨rfl, fun a => by
  have := g.isLt; fin_cases a
  · show 32 * g.val + 32 ≤ 256; omega
  · show 0 + 512 ≤ 512; omega⟩

/-- The eight groups of a tile stacked: row `k` is row `k % 32` of group `k / 32`. -/
theorem stack_apply (p : Fin 8 → FVec Ideal S32x512 .bf16) (k : Fin 256) (c : Fin 512)
    (h : Shape.Concatenates [S32x512, S32x512, S32x512, S32x512, S32x512, S32x512, S32x512, S32x512] S256x512 0) :
    concatenate S256x512 0 [⟨S32x512, p 0⟩, ⟨S32x512, p 1⟩, ⟨S32x512, p 2⟩, ⟨S32x512, p 3⟩, ⟨S32x512, p 4⟩, ⟨S32x512, p 5⟩,
      ⟨S32x512, p 6⟩, ⟨S32x512, p 7⟩] h (ix2 k c) = p ⟨k.val / 32, by omega⟩ (ix2 ⟨k.val % 32, by omega⟩ c) :=
  concatenate_ofFn_apply (s₁ := S32x512) (t := S256x512) 0 p h rfl 32 rfl (ix2 k c) ⟨k.val / 32, by omega⟩ rfl
    (ix2 ⟨k.val % 32, by omega⟩ c) rfl (fun b hb => by
      fin_cases b
      · exact absurd rfl hb
      · rfl)

/-- A tile adds to the running sum, at row `r` and column `c`, the 256 products of the input with the dequantised
    weights of column `c`. -/
theorem tile_apply (acc : FVec Ideal S256x512 .f32) (w : Vec Ideal S128x512 .i8) (sc : Fin 8 → Vec Ideal S1x512 .bf16)
    (z : Fin 8 → Vec Ideal S1x512 .i8) (x : Vec Ideal S256x256 .bf16) (r : Fin 256) (c : Fin 512) :
    tile acc w sc z x (ix2 r c) = acc (ix2 r c) + ∑ k : Fin 256, x (ix2 r k)
      * ((nib k.val (w (ix2 ⟨k.val / 2, by omega⟩ c)) - zp (z ⟨k.val / 32, by omega⟩ (ix2 0 c))) * sc ⟨k.val / 32, by omega⟩ (ix2 0 c)) := by
  let p : Fin 8 → FVec Ideal S32x512 .bf16 := fun g => grp (k0_pay5 w) (32 * g.val) (slices_grp g) (sc g) (z g)
  have e : tile acc w sc z x = addf acc (matmul (DotDims.plain 256 256 512) none (shapeCast S256x256 x shapeCasts_S256x256_S256x256)
      (concatenate S256x512 0 [⟨S32x512, p 0⟩, ⟨S32x512, p 1⟩, ⟨S32x512, p 2⟩, ⟨S32x512, p 3⟩, ⟨S32x512, p 4⟩, ⟨S32x512, p 5⟩,
        ⟨S32x512, p 6⟩, ⟨S32x512, p 7⟩] concatenates_S32x512_S32x512_S32x512_S32x512_S32x512_S32x512_S32x512_S32x512_S256x512_d0)
      (constant S256x512 .f32 0x00000000#32)) := rfl
  rw [e]
  show acc (ix2 r c) + FloatOps.matmul (F := Ideal) (DotDims.plain 256 256 512) none _ _ _ (ix2 r c) = _
  refine congrArg (acc (ix2 r c) + ·) ?_
  rw [Ideal.matmul_plain_apply]
  show Ideal.ofBits .f32 0x00000000#32 + _ = _
  rw [Ideal.ofBits_zero_f32, zero_add]
  refine Finset.sum_congr rfl fun k _ => ?_
  rw [shapeCast_self]
  refine congrArg (x (ix2 r k) * ·) ((stack_apply p k c _).trans ?_)
  exact (grp_apply _ _ _ _ _ _ c k (by dsimp only; omega)).trans (by rw [nibbles_apply])

end Cert.KernelIdeal.Block

end
-- ==== Proof.Element.lean ====
/-
  One element of the block a grid point writes, and one element of the adapter's activations, over the extended reals.
-/
module

public import proofs.«01_k».proof.Proof.Tile
public import Idealize.ShloMosaic.Lib.IdealHost

@[expose] public section

noncomputable section

open Idealize.ShloMosaic Idealize.ShloMosaic.ValueIdx
open scoped BigOperators

namespace Cert.KernelIdeal.Block

open Cert.KernelIdeal Cert.KernelIdeal.Gen Cert.Weights

variable (x0 : Vec Ideal S256x3584 .bf16) (x1 : Vec Ideal S1792x512 .i8) (x2 : Vec Ideal S112x512 .bf16)
  (x3 : Vec Ideal S112x512 .i8) (x4 : Vec Ideal S112x16 .bf16) (x5 : Vec Ideal S16x512 .bf16) (u : Vec Ideal S256x16 .bf16)

/-- Tile `t` adds the products of rows `256 t` to `256 t + 255`. -/
theorem tileAt_apply (t : Fin 14) (acc : FVec Ideal S256x512 .f32) (r : Fin 256) (c : Fin 512) :
    tileAt x0 x1 x2 x3 t acc (ix2 r c) = acc (ix2 r c) + ∑ k ∈ Finset.range 256,
      term (fun k => x0 (ix2 r k)) (fun p => x1 (ix2 p c)) (fun g => x2 (ix2 g c)) (fun g => x3 (ix2 g c)) (256 * t.val + k) := by
  have ht := t.isLt
  unfold tileAt
  rw [tile_apply, Finset.sum_range]
  refine congrArg (acc (ix2 r c) + ·) (Finset.sum_congr rfl fun k _ => ?_)
  have hk := k.isLt
  rw [term_of_lt _ _ _ _ _ (by omega)]
  have h : nib (256 * t.val + k.val) = nib k.val := by
    funext b; unfold nib; rw [show (256 * t.val + k.val) % 2 = k.val % 2 from by omega]
  rw [h]
  refine congrArg₂ (· * ·) ?_ (congrArg₂ (· * ·) (congrArg₂ (· - ·) (congrArg (nib k.val) ?_) (congrArg zp ?_)) ?_)
  · refine View.ld_unit_apply_of x0 _ _ _ (ix2 r k) _ fun a => ?_
    fin_cases a
    · show r.val = 0 + r.val; omega
    · rfl
  · refine View.ld_unit_apply_of x1 _ _ _ (ix2 _ c) _ fun a => ?_
    fin_cases a
    · show (256 * t.val + k.val) / 2 = 128 * t.val + k.val / 2; omega
    · show c.val = 0 + c.val; omega
  · refine View.ld_unit_apply_of x3 _ _ _ (ix2 0 c) _ fun a => ?_
    fin_cases a
    · show (256 * t.val + k.val) / 32 = 8 * t.val + k.val / 32 + 0; omega
    · show c.val = 0 + c.val; omega
  · refine View.ld_unit_apply_of x2 _ _ _ (ix2 0 c) _ fun a => ?_
    fin_cases a
    · show (256 * t.val + k.val) / 32 = 8 * t.val + k.val / 32 + 0; omega
    · show c.val = 0 + c.val; omega

/-- After `n` tiles: the adapter's part plus the products of the first `256 n` rows. -/
theorem chain_apply (r : Fin 256) (c : Fin 512) : ∀ (n : ℕ) (h : n ≤ 14),
    chain x0 x1 x2 x3 x5 u n h (ix2 r c) = (∑ q : Fin 16, u (ix2 r q) * x5 (ix2 q c)) + ∑ k ∈ Finset.range (256 * n),
      term (fun k => x0 (ix2 r k)) (fun p => x1 (ix2 p c)) (fun g => x2 (ix2 g c)) (fun g => x3 (ix2 g c)) k
  | 0, _ => by
    rw [Nat.mul_zero, Finset.sum_range_zero, add_zero]
    show FloatOps.matmul (F := Ideal) (DotDims.plain 256 16 512) none u x5 (constant S256x512 .f32 0x00000000#32) (ix2 r c) = _
    rw [Ideal.matmul_plain_apply]
    show Ideal.ofBits .f32 0x00000000#32 + _ = _
    rw [Ideal.ofBits_zero_f32, zero_add]
  | n + 1, h => by
    show tileAt x0 x1 x2 x3 ⟨n, h⟩ (chain x0 x1 x2 x3 x5 u n _) (ix2 r c) = _
    rw [tileAt_apply, chain_apply r c n, Nat.mul_succ, Finset.sum_range_add, add_assoc]

/-- An element of the block a grid point writes. -/
theorem blockOut_apply (r : Fin 256) (c : Fin 512) :
    blockOut x0 x1 x2 x3 x5 u (ix2 r c) = (∑ q : Fin 16, u (ix2 r q) * x5 (ix2 q c)) + ∑ k ∈ Finset.range 3584,
      term (fun k => x0 (ix2 r k)) (fun p => x1 (ix2 p c)) (fun g => x2 (ix2 g c)) (fun g => x3 (ix2 g c)) k :=
  chain_apply x0 x1 x2 x3 x5 u r c 14 le_rfl

/-! ## The adapter's activations -/

/-- The 0/1 matrix that sums groups: whether column `g` is row `k`'s group, as the program spells division by 32. -/
def member (k g : BitVec 32) : BitVec 1 :=
  IntOp.cmpi .eq (Scalar.select (IntOp.andi
      (IntOp.cmpi .ne (IntOp.subi ((IntOp.cmpi .sgt k 0#32).setWidth 32) ((IntOp.cmpi .slt k 0#32).setWidth 32))
        (Scalar.subi (Scalar.extui (Scalar.cmpi .sgt 32#32 0#32)) (Scalar.extui (Scalar.cmpi .slt 32#32 0#32))))
      (IntOp.cmpi .ne (IntOp.remsi .vector k 32#32) 0#32))
    (IntOp.subi (IntOp.divsi .vector k 32#32) 1#32) (IntOp.divsi .vector k 32#32)) g

/-- The quotient the program computes for row `k` is `k / 32`. -/
theorem member_eq (k : Fin 3584) (g : Fin 112) :
    member (BitVec.ofNat 32 k.val) (BitVec.ofNat 32 g.val) = if k.val / 32 = g.val then 1#1 else 0#1 := by
  have h : ∀ k : Fin 3584, Scalar.select (IntOp.andi
      (IntOp.cmpi .ne (IntOp.subi ((IntOp.cmpi .sgt (BitVec.ofNat 32 k.val) 0#32).setWidth 32) ((IntOp.cmpi .slt (BitVec.ofNat 32 k.val) 0#32).setWidth 32))
        (Scalar.subi (Scalar.extui (Scalar.cmpi .sgt 32#32 0#32)) (Scalar.extui (Scalar.cmpi .slt 32#32 0#32))))
      (IntOp.cmpi .ne (IntOp.remsi .vector (BitVec.ofNat 32 k.val) 32#32) 0#32))
    (IntOp.subi (IntOp.divsi .vector (BitVec.ofNat 32 k.val) 32#32) 1#32) (IntOp.divsi .vector (BitVec.ofNat 32 k.val) 32#32)
      = BitVec.ofNat 32 (k.val / 32) := by decide +kernel
  unfold member
  rw [h k]
  show BitVec.ofBool (BitVec.ofNat 32 (k.val / 32) == BitVec.ofNat 32 g.val) = _
  have hk := k.isLt; have hg := g.isLt
  by_cases e : k.val / 32 = g.val
  · rw [if_pos e, e]; simp
  · rw [if_neg e]
    have : ¬ BitVec.ofNat 32 (k.val / 32) = BitVec.ofNat 32 g.val := fun h => e (by
      have := congrArg BitVec.toNat h
      rw [BitVec.toNat_ofNat, BitVec.toNat_ofNat, Nat.mod_eq_of_lt (by omega), Nat.mod_eq_of_lt (by omega)] at this
      exact this)
    rw [beq_eq_false_iff_ne.mpr this]; rfl

/-- The program's group test, as a matrix. -/
def cond : IVec S3584x112 1 :=
  cmpi .eq (select (andi
      (cmpi .ne (subi (extui 32 (cmpi .sgt (iota .tc S3584x112 32 [0] iota_S3584x112_d0_w32) (broadcast S3584x112 0#32)) natLt_1_32)
          (extui 32 (cmpi .slt (iota .tc S3584x112 32 [0] iota_S3584x112_d0_w32) (broadcast S3584x112 0#32)) natLt_1_32))
        (broadcast S3584x112 (Scalar.subi (Scalar.extui (Scalar.cmpi .sgt 32#32 0#32)) (Scalar.extui (Scalar.cmpi .slt 32#32 0#32)))))
      (cmpi .ne (remsi (iota .tc S3584x112 32 [0] iota_S3584x112_d0_w32) (broadcast S3584x112 32#32)) (broadcast S3584x112 0#32)))
    (subi (divsi (iota .tc S3584x112 32 [0] iota_S3584x112_d0_w32) (broadcast S3584x112 32#32)) (broadcast S3584x112 1#32))
    (divsi (iota .tc S3584x112 32 [0] iota_S3584x112_d0_w32) (broadcast S3584x112 32#32)))
    (iota .tc S3584x112 32 [1] iota_S3584x112_d1_w32)

theorem cond_apply (k : Fin 3584) (g : Fin 112) : cond (ix2 k g) = if k.val / 32 = g.val then 1#1 else 0#1 := by
  rw [← member_eq]
  have e0 : iota .tc S3584x112 32 [0] iota_S3584x112_d0_w32 (ix2 k g) = BitVec.ofNat 32 k.val := by
    show BitVec.ofNat 32 (0 * 3584 + k.val) = _
    rw [Nat.zero_mul, Nat.zero_add]
  have e1 : iota .tc S3584x112 32 [1] iota_S3584x112_d1_w32 (ix2 k g) = BitVec.ofNat 32 g.val := by
    show BitVec.ofNat 32 (0 * 112 + g.val) = _
    rw [Nat.zero_mul, Nat.zero_add]
  rw [← e0, ← e1]
  rfl

/-- The 0/1 matrix that sums the rows of each group. -/
def mat : FVec Ideal S3584x112 .bf16 :=
  truncf .bf16 (select cond (broadcast S3584x112 (Scalar.ofBits (F := Ideal) .f32 0x3F800000#32))
    (broadcast S3584x112 (Scalar.ofBits (F := Ideal) .f32 0x00000000#32))) bitsLt_bf16_f32

theorem mat_apply (k : Fin 3584) (g : Fin 112) : mat (ix2 k g) = if k.val / 32 = g.val then 1 else 0 := by
  show Scalar.select (cond (ix2 k g)) (Ideal.ofBits .f32 0x3F800000#32) (Ideal.ofBits .f32 0x00000000#32) = _
  rw [cond_apply, Ideal.ofBits_one_f32, Ideal.ofBits_zero_f32]
  by_cases h : k.val / 32 = g.val
  · rw [if_pos h, if_pos h]; rfl
  · rw [if_neg h, if_neg h]; rfl

/-- The mean of each group of 32 columns. -/
def pooled : FVec Ideal S256x112 .bf16 :=
  truncf .bf16 (mulf (matmul (φ₁ := .bf16) (φ₂ := .bf16) dot_S256x3584_S3584x112_S256x112_1_0_0_1_n_n none x0 mat (constant S256x112 .f32 0x00000000#32))
    (broadcast S256x112 (Scalar.ofBits (F := Ideal) .f32 0x3D000000#32))) bitsLt_bf16_f32

theorem act_eq : act x0 x4 =
    truncf .bf16 (mulf (matmul (φ₁ := .bf16) (φ₂ := .bf16) dot_S256x112_S112x16_S256x16_1_0_0_1_n_n none (pooled x0) x4 (constant S256x16 .f32 0x00000000#32))
      (broadcast S256x16 (Scalar.ofBits (F := Ideal) .f32 0x3F800000#32))) bitsLt_bf16_f32 := by
  unfold act k0_pay3 k0_pay2
  dsimp only
  rw [shapeCast_self, shapeCast_self]
  unfold pooled mat cond
  with_reducible rfl

theorem pooled_apply (r : Fin 256) (g : Fin 112) :
    pooled x0 (ix2 r g) = (∑ i : Fin 32, x0 (ix2 r ⟨32 * g.val + i.val, by have := i.isLt; have := g.isLt; omega⟩)) * Ideal.ofBits .f32 0x3D000000#32 := by
  have e : dot_S256x3584_S3584x112_S256x112_1_0_0_1_n_n = DotDims.plain 256 3584 112 := rfl
  show FloatOps.matmul (F := Ideal) (φ₁ := .bf16) (φ₂ := .bf16) (DotDims.plain 256 3584 112) none x0 mat
    (constant S256x112 .f32 0x00000000#32) (ix2 r g) * _ = _
  refine congrArg (· * Ideal.ofBits .f32 0x3D000000#32) ?_
  rw [Ideal.matmul_plain_apply]
  show Ideal.ofBits .f32 0x00000000#32 + _ = _
  rw [Ideal.ofBits_zero_f32, zero_add]
  refine Eq.trans ?_ (pool (fun k => x0 (ix2 r k)) g)
  exact Finset.sum_congr rfl fun k _ => congrArg (x0 (ix2 r k) * ·) (mat_apply k g)

/-- An element of the adapter's activations. -/
theorem act_apply (r : Fin 256) (q : Fin 16) :
    act x0 x4 (ix2 r q) = adapt (fun k => x0 (ix2 r k)) (fun g q => x4 (ix2 g q)) q := by
  rw [act_eq]
  have e : dot_S256x112_S112x16_S256x16_1_0_0_1_n_n = DotDims.plain 256 112 16 := rfl
  show FloatOps.matmul (F := Ideal) (φ₁ := .bf16) (φ₂ := .bf16) (DotDims.plain 256 112 16) none (pooled x0) x4
      (constant S256x16 .f32 0x00000000#32) (ix2 r q) * _ = _
  unfold adapt
  refine congrArg (· * Ideal.ofBits .f32 0x3F800000#32) ?_
  rw [Ideal.matmul_plain_apply]
  show Ideal.ofBits .f32 0x00000000#32 + _ = _
  rw [Ideal.ofBits_zero_f32, zero_add]
  exact Finset.sum_congr rfl fun g _ => congrArg (· * x4 (ix2 g q)) (pooled_apply x0 r g)

end Cert.KernelIdeal.Block

end
-- ==== Proof.Array.lean ====
/-
  What the kernel's output array holds after its whole grid, and what the program returns: every element of the result is
  `Weights.out` of the launched arguments.
-/
module

public import proofs.«01_k».proof.Proof.Element

@[expose] public section

noncomputable section

open Idealize.ShloMosaic Idealize.ShloMosaic.TcCoe Idealize.ShloMosaic.ValueIdx Idealize.SL.Sem
open scoped BigOperators

namespace Cert.KernelIdeal.Arr

open Cert.KernelIdeal Cert.KernelIdeal.Gen Cert.KernelIdeal.Block Cert.Weights

/-- The whole result, of the six arguments with the activations as a matrix. -/
def arr (x0 : Vec Ideal S256x3584 .bf16) (x1 : Vec Ideal S1792x18944 .i8) (x2 : Vec Ideal S112x18944 .bf16)
    (x3 : Vec Ideal S112x18944 .i8) (x4 : Vec Ideal S112x16 .bf16) (x5 : Vec Ideal S16x18944 .bf16) : Vec Ideal S256x18944 .bf16 :=
  fun i => out (fun k => x0 (ix2 (i 0) k)) (fun p => x1 (ix2 p (i 1))) (fun g => x2 (ix2 g (i 1))) (fun g => x3 (ix2 g (i 1)))
    (fun g q => x4 (ix2 g q)) (fun q => x5 (ix2 q (i 1)))

variable (m : (ℓ : Loc nD τ sig) → Buf (Elt Ideal) ℓ)

/-! ## Which part of its array a point's block is -/

theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])
theorem index4 : ∀ t : Fin cfg0.N, win0_4.index t = ![0, 0] := (by decide +kernel : ∀ t : Fin grid0.N, win0_4.index t = ![0, 0])
theorem index5 : ∀ t : Fin cfg0.N, win0_5.index t = ![0, t.val] := (by decide +kernel : ∀ t : Fin grid0.N, win0_5.index t = ![0, t.val])
theorem index6 : ∀ t : Fin cfg0.N, win0_6.index t = ![0, t.val] := (by decide +kernel : ∀ t : Fin grid0.N, win0_6.index t = ![0, t.val])

/-- Column `j` of block `t`, as a column of the whole array. -/
def col (t : Fin cfg0.N) (j : Fin 512) : Fin 18944 :=
  ⟨512 * t.val + j.val, by have hN : cfg0.N = 37 := N_0; have := t.isLt; have := j.isLt; omega⟩

theorem iblk0 (c : Dev nD) (t : Fin cfg0.N) (r : Fin 256) (k : Fin 3584) :
    (iblk m c 0 t : Vec Ideal S256x3584 .bf16) (ix2 r k) = V m c main_v0 (ix2 r k) := by
  show V m c main_v0 (((cfg0.win 0).blk t).view.emb (ix2 r k)) = _
  refine congrArg (V m c main_v0) (funext fun a => Fin.ext ?_)
  fin_cases a
  · show win0_0.index t (0 : Fin 2) * 256 + 1 * r.val = r.val
    rw [index0]; show 0 * 256 + 1 * r.val = r.val; omega
  · show win0_0.index t (1 : Fin 2) * 3584 + 1 * k.val = k.val
    rw [index0]; show 0 * 3584 + 1 * k.val = k.val; omega

theorem iblk1 (c : Dev nD) (t : Fin cfg0.N) (p : Fin 1792) (j : Fin 512) :
    (iblk m c 1 t : Vec Ideal S1792x512 .i8) (ix2 p j) = V m c main_arg1 (ix2 p (col t j)) := by
  show V m c main_arg1 (((cfg0.win 1).blk t).view.emb (ix2 p j)) = _
  refine congrArg (V m c main_arg1) (funext fun a => Fin.ext ?_)
  fin_cases a
  · show win0_1.index t (0 : Fin 2) * 1792 + 1 * p.val = p.val
    rw [index1]; show 0 * 1792 + 1 * p.val = p.val; omega
  · show win0_1.index t (1 : Fin 2) * 512 + 1 * j.val = 512 * t.val + j.val
    rw [index1]; show t.val * 512 + 1 * j.val = _; omega

theorem iblk2 (c : Dev nD) (t : Fin cfg0.N) (g : Fin 112) (j : Fin 512) :
    (iblk m c 2 t : Vec Ideal S112x512 .bf16) (ix2 g j) = V m c main_arg2 (ix2 g (col t j)) := by
  show V m c main_arg2 (((cfg0.win 2).blk t).view.emb (ix2 g j)) = _
  refine congrArg (V m c main_arg2) (funext fun a => Fin.ext ?_)
  fin_cases a
  · show win0_2.index t (0 : Fin 2) * 112 + 1 * g.val = g.val
    rw [index2]; show 0 * 112 + 1 * g.val = g.val; omega
  · show win0_2.index t (1 : Fin 2) * 512 + 1 * j.val = 512 * t.val + j.val
    rw [index2]; show t.val * 512 + 1 * j.val = _; omega

theorem iblk3 (c : Dev nD) (t : Fin cfg0.N) (g : Fin 112) (j : Fin 512) :
    (iblk m c 3 t : Vec Ideal S112x512 .i8) (ix2 g j) = V m c main_arg3 (ix2 g (col t j)) := by
  show V m c main_arg3 (((cfg0.win 3).blk t).view.emb (ix2 g j)) = _
  refine congrArg (V m c main_arg3) (funext fun a => Fin.ext ?_)
  fin_cases a
  · show win0_3.index t (0 : Fin 2) * 112 + 1 * g.val = g.val
    rw [index3]; show 0 * 112 + 1 * g.val = g.val; omega
  · show win0_3.index t (1 : Fin 2) * 512 + 1 * j.val = 512 * t.val + j.val
    rw [index3]; show t.val * 512 + 1 * j.val = _; omega

theorem iblk4 (c : Dev nD) (t : Fin cfg0.N) (g : Fin 112) (q : Fin 16) :
    (iblk m c 4 t : Vec Ideal S112x16 .bf16) (ix2 g q) = V m c main_arg4 (ix2 g q) := by
  show V m c main_arg4 (((cfg0.win 4).blk t).view.emb (ix2 g q)) = _
  refine congrArg (V m c main_arg4) (funext fun a => Fin.ext ?_)
  fin_cases a
  · show win0_4.index t (0 : Fin 2) * 112 + 1 * g.val = g.val
    rw [index4]; show 0 * 112 + 1 * g.val = g.val; omega
  · show win0_4.index t (1 : Fin 2) * 16 + 1 * q.val = q.val
    rw [index4]; show 0 * 16 + 1 * q.val = q.val; omega

theorem iblk5 (c : Dev nD) (t : Fin cfg0.N) (q : Fin 16) (j : Fin 512) :
    (iblk m c 5 t : Vec Ideal S16x512 .bf16) (ix2 q j) = V m c main_arg5 (ix2 q (col t j)) := by
  show V m c main_arg5 (((cfg0.win 5).blk t).view.emb (ix2 q j)) = _
  refine congrArg (V m c main_arg5) (funext fun a => Fin.ext ?_)
  fin_cases a
  · show win0_5.index t (0 : Fin 2) * 16 + 1 * q.val = q.val
    rw [index5]; show 0 * 16 + 1 * q.val = q.val; omega
  · show win0_5.index t (1 : Fin 2) * 512 + 1 * j.val = 512 * t.val + j.val
    rw [index5]; show t.val * 512 + 1 * j.val = _; omega

/-! ## The array after the grid -/

/-- The result of the arrays as the grid finds them. -/
def result (c : Dev nD) : Vec Ideal S256x18944 .bf16 :=
  arr (V m c main_v0) (V m c main_arg1) (V m c main_arg2) (V m c main_arg3) (V m c main_arg4) (V m c main_arg5)

/-- An element of the block after point `t` is the result's element in that column block. -/
theorem after_apply (c : Dev nD) (t : Fin cfg0.N) (r : Fin 256) (j : Fin 512) :
    ((dats m 0 c).after 6 t : Vec Ideal S256x512 .bf16) (ix2 r j) = result m c (ix2 r (col t j)) := by
  rw [after_eq, blockOut_apply]
  show _ = out (fun k => V m c main_v0 (ix2 r k)) (fun p => V m c main_arg1 (ix2 p (col t j))) (fun g => V m c main_arg2 (ix2 g (col t j)))
    (fun g => V m c main_arg3 (ix2 g (col t j))) (fun g q => V m c main_arg4 (ix2 g q)) (fun q => V m c main_arg5 (ix2 q (col t j)))
  simp only [act_apply, iblk0, iblk1, iblk2, iblk3, iblk4, iblk5]
  rfl

/-- What point `t` writes back is block `t` of the result. -/
theorem flushed_eq (c : Dev nD) (t : Fin cfg0.N) (hf : (cfg0.win 6).flush t = true) :
    (dats m 0 c).flushed 6 t = ((cfg0.win 6).blk t).view.read (Elt Ideal) (result m c) := by
  have key : ∀ y : S256x512.Idx, ((dats m 0 c).after 6 t : Vec Ideal S256x512 .bf16) y = result m c (((cfg0.win 6).blk t).view.emb y) := by
    intro y
    conv_lhs => rw [eq_ix2 y]
    refine (after_apply m c t (y 0) (y 1)).trans (congrArg (result m c) (funext fun a => Fin.ext ?_))
    fin_cases a
    · show (y 0).val = win0_6.index t (0 : Fin 2) * 256 + 1 * (y 0).val
      rw [index6]; show _ = 0 * 256 + 1 * (y 0).val; omega
    · show 512 * t.val + (y 1).val = win0_6.index t (1 : Fin 2) * 512 + 1 * (y 1).val
      rw [index6]; show _ = t.val * 512 + 1 * (y 1).val; omega
  exact funext key

/-- Every index of the array is in some point's block. -/
theorem covered (i : S256x18944.Idx) : ∃ t : Fin cfg0.N, (cfg0.win 6).flush t = true ∧ i ∈ ((cfg0.win 6).blk t).view.set := by
  have hN : cfg0.N = 37 := N_0
  have hi0 : (i 0).val < 256 := (i 0).isLt
  have hi1 : (i 1).val < 18944 := (i 1).isLt
  have mem : ∀ t : Fin cfg0.N, i ∈ ((cfg0.win 6).blk t).view.set ↔ ∀ a : Fin 2, win0_6.index t a * S256x512.size a ≤ (i a).val
      ∧ (i a).val < win0_6.index t a * S256x512.size a + S256x512.size a := by
    intro t
    show i ∈ ((View.whole main_v1).slice (win0_6.rect t)).set ↔ _
    rw [View.set_slice_whole, Rect.mem_set_unit]
    exact Iff.rfl
  refine ⟨⟨(i 1).val / 512, by omega⟩, flush0_6 _, ?_⟩
  rw [mem, index6]
  intro a
  fin_cases a
  · show 0 * 256 ≤ (i 0).val ∧ (i 0).val < 0 * 256 + 256; omega
  · show (i 1).val / 512 * 512 ≤ (i 1).val ∧ (i 1).val < (i 1).val / 512 * 512 + 512; omega

/-- The array after the grid is the result. -/
theorem final (c : Dev nD) : (dats m 0 c).arrAt 6 cfg0.N = result m c :=
  (dats m 0 c).arrAt_eq_of_cover 6 _ (fun t hf => flushed_eq m c t hf) covered

/-! ## The program's result -/

/-- What the program returns, of its six arguments as launched. -/
def value (c : Dev nD) : Vec Ideal S1x256x18944 .bf16 :=
  shapeCast S1x256x18944 (arr (shapeCast S256x3584 (m ((c : Thread nD τ).loc main_arg0)) shapeCasts_S1x256x3584_S256x3584)
    (m ((c : Thread nD τ).loc main_arg1)) (m ((c : Thread nD τ).loc main_arg2)) (m ((c : Thread nD τ).loc main_arg3))
    (m ((c : Thread nD τ).loc main_arg4)) (m ((c : Thread nD τ).loc main_arg5))) shapeCasts_S256x18944_S1x256x18944

/-- The grid finds the activations reshaped to a matrix. -/
theorem V_main_v0 (c : Dev nD) :
    V m c main_v0 = shapeCast S256x3584 (m ((c : Thread nD τ).loc main_arg0)) shapeCasts_S1x256x3584_S256x3584 := by
  show StableHlo.after (List.flatten [hostOps0]) (fun b => m (c, b)) (Proc.devRef .tc main_v0) = _
  simp only [hostOps0, List.flatten_cons, List.flatten_nil, List.append_nil, StableHlo.after_cons, StableHlo.after_nil]
  exact (StableHlo.reshape_result (Val := Elt Ideal) main_arg0 main_v0 rfl shapeCasts_S1x256x3584_S256x3584 _ _ (fun b => m (c, b))).trans rfl

/-- The grid's array, reshaped, is what the program returns. -/
theorem tail (c : Dev nD) : Pipeline.afterTail₀ cfgs (dats m) 0 (V0 m) [hostOps1] c main_v2 = value m c := by
  unfold Pipeline.afterTail₀
  simp only [hostOps1, List.flatten_cons, List.flatten_nil, List.append_nil, StableHlo.after_cons, StableHlo.after_nil]
  refine (StableHlo.reshape_result (Val := Elt Ideal) main_v1 main_v2 rfl shapeCasts_S256x18944_S1x256x18944 _ _ _).trans ?_
  have h := (Pipeline.withArrays_arr spec0 (by decide) c (V0 m c) (fun w => (dats m 0 c).arrAt w cfg0.N) 6).trans (final m c)
  have e : value m c = shapeCast S1x256x18944 (result m c) shapeCasts_S256x18944_S1x256x18944 := by
    unfold value result
    rw [V_main_v0, V_main_arg1, V_main_arg2, V_main_arg3, V_main_arg4, V_main_arg5]
  rw [e]
  exact congrArg (fun x : Vec Ideal S256x18944 .bf16 => shapeCast S1x256x18944 x shapeCasts_S256x18944_S1x256x18944) h

/-- Every execution ends with the program's result at `value` and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v2 (Pipeline.mem_restRefs_of main_v2 (by decide) (by decide))).trans (tail m c), h.2 c⟩)
    (θ_run_and (run_main m ρ) (unchanged m ρ))

end Cert.KernelIdeal.Arr

end
-- ==== Proof.Reference.lean ====
/-
  What the reference computes: one element of its result, over the extended reals, is the result element with the two halves
  of each byte summed apart.
-/
module

public import proofs.«01_k».proof.Proof.Weights
public import proofs.«01_k».proof.Proof.Gen.ReferenceIdeal.Run
public import Idealize.ShloMosaic.Lib.IdealHost
public import Idealize.ShloMosaic.Lib.Pipeline.Value
public import Idealize.ShloMosaic.Lib.ValueIdx
public import Idealize.ShloMosaic.Lib.Pointwise.ShapeOpsCore

@[expose] public section

noncomputable section

open Idealize.ShloMosaic hiding ix2 ix3
open Idealize.ShloMosaic.TcCoe Idealize.ShloMosaic.ValueIdx Idealize.SL.Sem
open scoped BigOperators

namespace Cert.ReferenceIdeal.Element

open Cert.ReferenceIdeal Cert.ReferenceIdeal.Gen Cert.Weights

/-- A product `[1, M, K] × [K, N]` over the last axis of the left and the first of the right. -/
theorem dot_apply {M K N : ℕ} {φ₁ φ₂ : FTy} (w : DotDims.WF ⟨3, ![1, M, K]⟩ ⟨2, ![K, N]⟩ ⟨3, ![1, M, N]⟩ [2] [0] [0, 1] [1] [] [])
    (A : FVec Ideal ⟨3, ![1, M, K]⟩ φ₁) (B : FVec Ideal ⟨2, ![K, N]⟩ φ₂) (r : Fin M) (n : Fin N) :
    Host.dotGeneral (⟨[2], [0], [0, 1], [1], [], [], w⟩ : DotDims _ _ _) none A B (ix3 0 r n) = ∑ k : Fin K, A (ix3 0 r k) * B (ix2 k n) := by
  show FloatOps.dotGeneral _ none _ A B (ix3 0 r n) = _
  rw [Ideal.dotGeneral_apply,
    ← Equiv.sum_comp (contrEquiv1 (⟨[2], [0], [0, 1], [1], [], [], w⟩ : DotDims _ _ _) K rfl rfl).symm]
  refine Finset.sum_congr rfl fun k _ => ?_
  have hk := contrEquiv1_symm_val
    (⟨[2], [0], [0, 1], [1], [], [], w⟩ : DotDims ⟨3, ![1, M, K]⟩ ⟨2, ![K, N]⟩ ⟨3, ![1, M, N]⟩) K rfl rfl k
  have hl : (⟨[2], [0], [0, 1], [1], [], [], w⟩ : DotDims ⟨3, ![1, M, K]⟩ ⟨2, ![K, N]⟩ ⟨3, ![1, M, N]⟩).lhsIdx (ix3 0 r n)
      ((contrEquiv1 _ K rfl rfl).symm k) = ix3 0 r k := by
    funext a; apply Fin.ext
    match a with
    | ⟨0, _⟩ => simp [DotDims.lhsIdx]
    | ⟨1, _⟩ => simp [DotDims.lhsIdx]; rfl
    | ⟨2, _⟩ => simp [DotDims.lhsIdx]; exact hk
  have hr : (⟨[2], [0], [0, 1], [1], [], [], w⟩ : DotDims ⟨3, ![1, M, K]⟩ ⟨2, ![K, N]⟩ ⟨3, ![1, M, N]⟩).rhsIdx (ix3 0 r n)
      ((contrEquiv1 _ K rfl rfl).symm k) = ix2 k n := by
    funext a; apply Fin.ext
    match a with
    | ⟨0, _⟩ => simp [DotDims.rhsIdx]; exact hk
    | ⟨1, _⟩ => simp [DotDims.rhsIdx]; rfl
  rw [hl, hr]

variable (x : Vec Ideal S1x256x3584 .bf16) (w : Vec Ideal S1792x18944 .i8) (s : Vec Ideal S112x18944 .bf16)
  (z : Vec Ideal S112x18944 .i8) (a : Vec Ideal S112x16 .bf16) (b : Vec Ideal S16x18944 .bf16)

/-! ## The dequantised weights -/

/-- One value per group and column, repeated over the group's sixteen bytes. -/
def spread (g : FVec Ideal S112x18944 .bf16) : FVec Ideal S112x16x18944 .bf16 :=
  broadcastInDim S112x16x18944 ![0, 1, 2] bcast_S112x1x18944_S112x16x18944_0_1_2
    (broadcastInDim S112x1x18944 ![0, 2] bcast_S112x18944_S112x1x18944_0_2 g)

theorem spread_apply (g : FVec Ideal S112x18944 .bf16) (p : Fin 112) (i : Fin 16) (n : Fin 18944) :
    spread g (ix3 p i n) = g (ix2 p n) := by
  unfold spread
  rw [broadcastInDim_apply _ _ _ _ (ix3 p 0 n) (fun a => by fin_cases a <;> rfl),
    broadcastInDim_apply _ _ _ _ (ix2 p n) (fun a => by fin_cases a <;> rfl)]

/-- The weights of the rows whose codes are `codes`: code less zero point, times scale. -/
def weights (codes : IVec S1792x18944 32) : FVec Ideal S1792x18944 .bf16 :=
  shapeCast S1792x18944 (mulf (subf (shapeCast S112x16x18944 (sitofp (F := Ideal) .bf16 codes) shapeCasts_S1792x18944_S112x16x18944)
    (spread (sitofp (F := Ideal) .bf16 (extui 32 z natLt_8_32)))) (spread s)) shapeCasts_S112x16x18944_S1792x18944

theorem weights_apply (codes : IVec S1792x18944 32) (r : Fin 1792) (n : Fin 18944) :
    weights s z codes (ix2 r n)
      = ((((codes (ix2 r n)).toInt : ℝ) : EReal) - zp (z (ix2 ⟨r.val / 16, by omega⟩ n))) * s (ix2 ⟨r.val / 16, by omega⟩ n) := by
  have hr := r.isLt
  have hn := n.isLt
  unfold weights
  rw [shapeCast_apply _ _ _ (ix3 (⟨r.val / 16, by omega⟩ : Fin 112) (⟨r.val % 16, by omega⟩ : Fin 16) n) (by
    rw [Shape.rowMajor_val_three, Shape.rowMajor_val_two]
    show (r.val / 16 * 16 + r.val % 16) * 18944 + n.val = r.val * 18944 + n.val
    omega)]
  show (shapeCast S112x16x18944 (sitofp (F := Ideal) .bf16 codes) shapeCasts_S1792x18944_S112x16x18944 _ - spread _ _) * spread _ _ = _
  rw [spread_apply, spread_apply, shapeCast_apply _ _ _ (ix2 r n) (by
    rw [Shape.rowMajor_val_three, Shape.rowMajor_val_two]
    show r.val * 18944 + n.val = (r.val / 16 * 16 + r.val % 16) * 18944 + n.val
    omega)]
  show (_ - (((((z (ix2 _ n)).setWidth 32).toInt : ℝ)) : EReal)) * _ = _
  rw [zp32]
  rfl

/-- The low codes and the high codes. -/
def lo : IVec S1792x18944 32 := andi (extui 32 w natLt_8_32) (broadcastInDim S1792x18944 ![] bcast_S_S1792x18944 (constantI S_ 32 15#32))
def hi : IVec S1792x18944 32 := Host.shrsi (extui 32 w natLt_8_32) (broadcastInDim S1792x18944 ![] bcast_S_S1792x18944 (constantI S_ 32 4#32))

theorem lo_apply (i : S1792x18944.Idx) : (((lo w i).toInt : ℝ) : EReal) = nib 0 (w i) := lo32 (w i)
theorem hi_apply (i : S1792x18944.Idx) : (((hi w i).toInt : ℝ) : EReal) = nib 1 (w i) := hi32 (w i)

/-- The even and the odd columns of the input. -/
def even : FVec Ideal S1x256x1792 .bf16 := Host.slice S1x256x1792 ![0, 0, 0] ![1, 1, 2] x slicesBy_S1x256x3584_S1x256x1792_0s1_0s1_0s2
def odd : FVec Ideal S1x256x1792 .bf16 := Host.slice S1x256x1792 ![0, 0, 1] ![1, 1, 2] x slicesBy_S1x256x3584_S1x256x1792_0s1_0s1_1s2

theorem even_apply (r : Fin 256) (k : Fin 1792) : even x (ix3 0 r k) = x (ix3 0 r ⟨2 * k.val, by omega⟩) := by
  unfold even
  rw [Host.slice_apply]
  refine congrArg x (funext fun a => Fin.ext ?_)
  fin_cases a
  · rfl
  · show 0 + 1 * r.val = r.val; omega
  · show 0 + 2 * k.val = 2 * k.val; omega

theorem odd_apply (r : Fin 256) (k : Fin 1792) : odd x (ix3 0 r k) = x (ix3 0 r ⟨2 * k.val + 1, by omega⟩) := by
  unfold odd
  rw [Host.slice_apply]
  refine congrArg x (funext fun a => Fin.ext ?_)
  fin_cases a
  · rfl
  · show 0 + 1 * r.val = r.val; omega
  · show 1 + 2 * k.val = 2 * k.val + 1; omega

/-! ## The adapter -/

/-- The group means of the input. -/
def means : FVec Ideal S1x256x112 .bf16 :=
  truncf .bf16 (mulf (Host.reduceAdd (shapeCast S1x256x112x32 (extf .f32 x bitsLt_bf16_f32) shapeCasts_S1x256x3584_S1x256x112x32)
    (constant S_ .f32 0x00000000#32) reducesTo_S1x256x112x32_S1x256x112_d3 h_S_)
    (broadcastInDim S1x256x112 ![] bcast_S_S1x256x112 (constant S_ .f32 0x3D000000#32))) bitsLt_bf16_f32

theorem reduces3 : S1x256x112x32.Reduces [3] S1x256x112 :=
  ⟨reducesTo_S1x256x112x32_S1x256x112_d3.1, by decide, reducesTo_S1x256x112x32_S1x256x112_d3.2⟩

theorem means_apply (r : Fin 256) (g : Fin 112) : means x (ix3 0 r g)
    = (∑ i : Fin 32, x (ix3 0 r ⟨32 * g.val + i.val, by have := i.isLt; have := g.isLt; omega⟩)) * Ideal.ofBits .f32 0x3D000000#32 := by
  show Ideal.hostReduceAdd reducesTo_S1x256x112x32_S1x256x112_d3 (shapeCast S1x256x112x32 x shapeCasts_S1x256x3584_S1x256x112x32)
    (Ideal.ofBits .f32 0x00000000#32) (ix3 0 r g) * Ideal.ofBits .f32 0x3D000000#32 = _
  refine congrArg (· * Ideal.ofBits .f32 0x3D000000#32) ?_
  rw [Ideal.hostReduceAdd_single _ reduces3, Ideal.ofBits_zero_f32, zero_add]
  show ∑ i : Fin 32, _ = _
  refine Finset.sum_congr rfl fun i _ => ?_
  refine shapeCast_apply _ _ _ _ ?_
  rw [Shape.rowMajor_val_three, Shape.rowMajor_val_four]
  show (0 * 256 + r.val) * 3584 + (32 * g.val + i.val) = ((0 * 256 + r.val) * 112 + g.val) * 32 + i.val
  omega

/-- The adapter's activations. -/
def acts : FVec Ideal S1x256x16 .bf16 :=
  truncf .bf16 (mulf (Host.dotGeneral (φ₁ := .bf16) (φ₂ := .bf16) dot_S1x256x112_S112x16_S1x256x16_2_0_01_1_n_n none (means x) a)
    (broadcastInDim S1x256x16 ![] bcast_S_S1x256x16 (constant S_ .f32 0x3F800000#32))) bitsLt_bf16_f32

theorem acts_apply (r : Fin 256) (q : Fin 16) :
    acts x a (ix3 0 r q) = adapt (fun k => x (ix3 0 r k)) (fun g q => a (ix2 g q)) q := by
  show Host.dotGeneral (φ₁ := .bf16) (φ₂ := .bf16) dot_S1x256x112_S112x16_S1x256x16_2_0_01_1_n_n none (means x) a (ix3 0 r q)
    * Ideal.ofBits .f32 0x3F800000#32 = _
  unfold adapt
  refine congrArg (· * Ideal.ofBits .f32 0x3F800000#32) ?_
  refine (dot_apply (φ₁ := .bf16) (φ₂ := .bf16) _ _ _ r q).trans (Finset.sum_congr rfl fun g _ => ?_)
  rw [means_apply]

/-! ## The result -/

/-- What the reference returns, of its six arguments. -/
def ref : FVec Ideal S1x256x18944 .bf16 :=
  truncf .bf16 (addf (addf
      (Host.dotGeneral (φ₁ := .bf16) (φ₂ := .bf16) dot_S1x256x1792_S1792x18944_S1x256x18944_2_0_01_1_n_n none (even x) (weights s z (lo w)))
      (Host.dotGeneral (φ₁ := .bf16) (φ₂ := .bf16) dot_S1x256x1792_S1792x18944_S1x256x18944_2_0_01_1_n_n none (odd x) (weights s z (hi w))))
    (Host.dotGeneral (φ₁ := .bf16) (φ₂ := .bf16) dot_S1x256x16_S16x18944_S1x256x18944_2_0_01_1_n_n none (acts x a) b)) bitsLt_bf16_f32

/-- An element of the reference's result. -/
theorem ref_apply (r : Fin 256) (n : Fin 18944) : ref x w s z a b (ix3 0 r n)
    = out (fun k => x (ix3 0 r k)) (fun p => w (ix2 p n)) (fun g => s (ix2 g n)) (fun g => z (ix2 g n))
      (fun g q => a (ix2 g q)) (fun q => b (ix2 q n)) := by
  rw [out_eq_split]
  show Host.dotGeneral (φ₁ := .bf16) (φ₂ := .bf16) dot_S1x256x1792_S1792x18944_S1x256x18944_2_0_01_1_n_n none (even x) (weights s z (lo w)) (ix3 0 r n)
      + Host.dotGeneral (φ₁ := .bf16) (φ₂ := .bf16) dot_S1x256x1792_S1792x18944_S1x256x18944_2_0_01_1_n_n none (odd x) (weights s z (hi w)) (ix3 0 r n)
    + Host.dotGeneral (φ₁ := .bf16) (φ₂ := .bf16) dot_S1x256x16_S16x18944_S1x256x18944_2_0_01_1_n_n none (acts x a) b (ix3 0 r n) = _
  refine congrArg₂ (· + ·) (congrArg₂ (· + ·) ?_ ?_) ?_
  · refine (dot_apply (φ₁ := .bf16) (φ₂ := .bf16) _ _ _ r n).trans (Finset.sum_congr rfl fun k _ => ?_)
    rw [even_apply, weights_apply, lo_apply]
  · refine (dot_apply (φ₁ := .bf16) (φ₂ := .bf16) _ _ _ r n).trans (Finset.sum_congr rfl fun k _ => ?_)
    rw [odd_apply, weights_apply, hi_apply]
  · refine (dot_apply (φ₁ := .bf16) (φ₂ := .bf16) _ _ _ r n).trans (Finset.sum_congr rfl fun q _ => ?_)
    rw [acts_apply]

/-- Every execution of the reference ends with its result at `ref` of its arguments, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = ref (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2⟩) (Cert.ReferenceIdeal.Value.run (F := Ideal) m ρ)

end Cert.ReferenceIdeal.Element

end
-- ==== Proof.Equation.lean ====
/-
  The equation: the kernel program and the reference return the same array, over the extended reals.
-/
module

public import proofs.«01_k».proof.Proof.Array
public import proofs.«01_k».proof.Proof.Reference

@[expose] public section

noncomputable section

open Idealize.ShloMosaic hiding ix2 ix3 eq_ix3
open Idealize.ShloMosaic.TcCoe Idealize.ShloMosaic.ValueIdx

namespace Cert.Equation

open Cert.KernelIdeal Cert.KernelIdeal.Gen

variable (m : (ℓ : Loc nD τ sig) → Buf (Elt Ideal) ℓ)

/-- An element of what the kernel program returns. -/
theorem value_apply (c : Dev nD) (r : Fin 256) (n : Fin 18944) :
    Arr.value m c (ix3 0 r n) = Cert.Weights.out (fun k => m ((c : Thread nD τ).loc main_arg0) (ix3 0 r k))
      (fun p => m ((c : Thread nD τ).loc main_arg1) (ix2 p n)) (fun g => m ((c : Thread nD τ).loc main_arg2) (ix2 g n))
      (fun g => m ((c : Thread nD τ).loc main_arg3) (ix2 g n)) (fun g q => m ((c : Thread nD τ).loc main_arg4) (ix2 g q))
      (fun q => m ((c : Thread nD τ).loc main_arg5) (ix2 q n)) := by
  have hx : (fun k : Fin 3584 => shapeCast S256x3584 (m ((c : Thread nD τ).loc main_arg0)) shapeCasts_S1x256x3584_S256x3584 (ix2 r k))
      = fun k => m ((c : Thread nD τ).loc main_arg0) (ix3 0 r k) := by
    funext k
    refine shapeCast_apply (s := S1x256x3584) _ _ _ _ ?_
    rw [Shape.rowMajor_val_three, Shape.rowMajor_val_two]
    show (0 * 256 + r.val) * 3584 + k.val = r.val * 3584 + k.val
    omega
  unfold Arr.value
  rw [shapeCast_apply _ _ (ix3 0 r n) (ix2 r n) (by
    rw [Shape.rowMajor_val_three, Shape.rowMajor_val_two]
    show r.val * 18944 + n.val = (0 * 256 + r.val) * 18944 + n.val
    omega)]
  rw [← hx]
  rfl

/-- The kernel program's result is the reference's, of the same arguments. -/
theorem value_eq (c : Dev nD) : Arr.value m c
    = Cert.ReferenceIdeal.Element.ref (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have h : ∀ j : S1x256x18944.Idx, Arr.value m c j
      = Cert.ReferenceIdeal.Element.ref (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) j := by
    intro j
    have hj : j = ix3 0 (j 1) (j 2) := (eq_ix3 j).trans (congrArg (fun a => ix3 a (j 1) (j 2)) (Subsingleton.elim (α := Fin 1) _ _))
    rw [hj]
    exact (value_apply m c (j 1) (j 2)).trans (Cert.ReferenceIdeal.Element.ref_apply _ _ _ _ _ _ (j 1) (j 2)).symm
  exact funext h

end Cert.Equation

end
-- ==== Proof.lean ====
/-
  The proof of the certificate's claim, assembled: the kernel program runs, for the machine's values and for the extended reals,
  ends with its arguments unchanged and its semaphores at zero; so does the reference; and over the extended reals the two return
  the same array. The mathematics is in Proof/: Weights (one output element), Block, Tile and Element (what one grid point
  writes), Array (what the output array holds and the program returns), Reference (what the reference returns), Equation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, ends with its arguments unchanged, and has no semaphore to leave nonzero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the kernel program and the reference, on the same arguments, return the same array. -/
theorem algebraic : Cert.algebraic_KernelIdeal_ReferenceIdeal := by
  intro m ρ m' ρ' _ hagree
  refine ⟨fun c => Cert.KernelIdeal.Arr.value m c, Cert.KernelIdeal.Arr.run m ρ, ?_⟩
  refine (θ_run Cert.ReferenceIdeal.defs _ _).mono (fun _ h c => ?_) (Cert.ReferenceIdeal.Element.run m' ρ')
  refine ⟨(h c).1.trans ?_, (h c).2⟩
  obtain ⟨h0, h1, h2, h3, h4, h5⟩ := hagree c
  rw [h0, h1, h2, h3, h4, h5]
  exact (Cert.Equation.value_eq m c).symm

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
